-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2x2048x1024 : Shape := ⟨4, ![8, 2, 2048, 1024]⟩
abbrev S8 : Shape := ⟨1, ![8]⟩
abbrev S16384x2048 : Shape := ⟨2, ![16384, 2048]⟩
abbrev S16 : Shape := ⟨1, ![16]⟩
abbrev S16x2048 : Shape := ⟨2, ![16, 2048]⟩
abbrev S_ : Shape := ⟨0, ![]⟩
abbrev S1 : Shape := ⟨1, ![1]⟩

abbrev nBuf : Table → Nat
  | .hbm => 5
  | .local .scVector .vmem => 3
  | _ => 0

abbrev bufTy : (tb : Table) → Fin (nBuf tb) → BufTy
  | .hbm, ⟨0, _⟩ => ⟨S8x2x2048x1024, .f32⟩
  | .hbm, ⟨1, _⟩ => ⟨S8, .f32⟩
  | .hbm, ⟨2, _⟩ => ⟨S16384x2048, .f32⟩
  | .hbm, ⟨3, _⟩ => ⟨S16384x2048, .f32⟩
  | .hbm, ⟨4, _⟩ => ⟨S8x2x2048x1024, .f32⟩
  | .local .scVector .vmem, ⟨0, _⟩ => ⟨S16, .f32⟩
  | .local .scVector .vmem, ⟨1, _⟩ => ⟨S16x2048, .f32⟩
  | .local .scVector .vmem, ⟨2, _⟩ => ⟨S16x2048, .f32⟩
  | _, _ => ⟨S8x2x2048x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (v9 : BitVec 1) (v14 : BitVec 1) (v19 : BitVec 1) (v24 : BitVec 1) (v29 : BitVec 1) (v34 : BitVec 1) (v39 : BitVec 1) : Fin 2 → Nat :=
  let c7_i32 : BitVec 32 := 7#32
  let c6_i32 : BitVec 32 := 6#32
  let c5_i32 : BitVec 32 := 5#32
  let c4_i32 : BitVec 32 := 4#32
  let c3_i32 : BitVec 32 := 3#32
  let c2_i32_0 : BitVec 32 := 2#32
  let c1_i32 : BitVec 32 := 1#32
  let c0_i32 : BitVec 32 := 0#32
  let v10 : BitVec 32 := Scalar.select v9 c1_i32 c0_i32
  let v15 : BitVec 32 := Scalar.select v14 c2_i32_0 v10
  let v20 : BitVec 32 := Scalar.select v19 c3_i32 v15
  let v25 : BitVec 32 := Scalar.select v24 c4_i32 v20
  let v30 : BitVec 32 := Scalar.select v29 c5_i32 v25
  let v35 : BitVec 32 := Scalar.select v34 c6_i32 v30
  let v40 : BitVec 32 := Scalar.select v39 c7_i32 v35
  let c2048_i32 : BitVec 32 := 2048#32
  let v42 : BitVec 32 := Scalar.muli v40 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v43 : BitVec 32 := Scalar.addi v42 v2
  let c0_i32_1 : BitVec 32 := 0#32
  ![v43.toNat, 0]

def k0_off2 (i : grid0.Coords) (v9 : BitVec 1) (v14 : BitVec 1) (v19 : BitVec 1) (v24 : BitVec 1) (v29 : BitVec 1) (v34 : BitVec 1) (v39 : BitVec 1) (c16_i32 : BitVec 32) : Fin 2 → Nat :=
  let c7_i32 : BitVec 32 := 7#32
  let c6_i32 : BitVec 32 := 6#32
  let c5_i32 : BitVec 32 := 5#32
  let c4_i32 : BitVec 32 := 4#32
  let c3_i32 : BitVec 32 := 3#32
  let c2_i32_0 : BitVec 32 := 2#32
  let c1_i32 : BitVec 32 := 1#32
  let c0_i32 : BitVec 32 := 0#32
  let v10 : BitVec 32 := Scalar.select v9 c1_i32 c0_i32
  let v15 : BitVec 32 := Scalar.select v14 c2_i32_0 v10
  let v20 : BitVec 32 := Scalar.select v19 c3_i32 v15
  let v25 : BitVec 32 := Scalar.select v24 c4_i32 v20
  let v30 : BitVec 32 := Scalar.select v29 c5_i32 v25
  let v35 : BitVec 32 := Scalar.select v34 c6_i32 v30
  let v40 : BitVec 32 := Scalar.select v39 c7_i32 v35
  let c2048_i32 : BitVec 32 := 2048#32
  let v42 : BitVec 32 := Scalar.muli v40 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v43 : BitVec 32 := Scalar.addi v42 v2
  let v48 : BitVec 32 := Scalar.addi v43 c16_i32
  let c0_i32_5 : BitVec 32 := 0#32
  ![v48.toNat, 0]

def k0_chk1 (i : grid0.Coords) (v9 : BitVec 1) (v14 : BitVec 1) (v19 : BitVec 1) (v24 : BitVec 1) (v29 : BitVec 1) (v34 : BitVec 1) (v39 : BitVec 1) : Prop :=
  (∀ a, (k0_off1 i v9 v14 v19 v24 v29 v34 v39) a + S16x2048.size a ≤ S16384x2048.size a) ∧
  (∀ (r : Fin 3), ∀ a, (k0_off2 i v9 v14 v19 v24 v29 v34 v39 (BitVec.ofNat 32 (16 + 16 * r.val))) a + S16x2048.size a ≤ S16384x2048.size a)
theorem k0_off1_inb : ∀ (i : grid0.Coords) (v9 : BitVec 1) (v14 : BitVec 1) (v19 : BitVec 1) (v24 : BitVec 1) (v29 : BitVec 1) (v34 : BitVec 1) (v39 : BitVec 1) (k0_hw1 : k0_chk1 i v9 v14 v19 v24 v29 v34 v39), ∀ a, (k0_off1 i v9 v14 v19 v24 v29 v34 v39) a + S16x2048.size a ≤ S16384x2048.size a := fun i v9 v14 v19 v24 v29 v34 v39 k0_hw1 => k0_hw1.1
theorem k0_off2_inb : ∀ (i : grid0.Coords) (v9 : BitVec 1) (v14 : BitVec 1) (v19 : BitVec 1) (v24 : BitVec 1) (v29 : BitVec 1) (v34 : BitVec 1) (v39 : BitVec 1) (k0_hw1 : k0_chk1 i v9 v14 v19 v24 v29 v34 v39), ∀ (r : Fin 3), ∀ a, (k0_off2 i v9 v14 v19 v24 v29 v34 v39 (BitVec.ofNat 32 (16 + 16 * r.val))) a + S16x2048.size a ≤ S16384x2048.size a := fun i v9 v14 v19 v24 v29 v34 v39 k0_hw1 r => k0_hw1.2 r

def k0_off3 (i : grid0.Coords) (c0_i32_8 : BitVec 32) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v51 : BitVec 32 := Scalar.addi v2 c0_i32_7
  let v52 : BitVec 32 := Scalar.addi c0_i32_8 v51
  let c0_i32_9 : BitVec 32 := 0#32
  ![v52.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2x2048x1024 : Shape := ⟨4, ![8, 2, 2048, 1024]⟩
abbrev S8 : Shape := ⟨1, ![8]⟩
abbrev S_ : Shape := ⟨0, ![]⟩
abbrev S1 : Shape := ⟨1, ![1]⟩
abbrev S2x2048x1024 : Shape := ⟨3, ![2, 2048, 1024]⟩
abbrev S1x2x2048x1024 : Shape := ⟨4, ![1, 2, 2048, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x2x2048x1024, .f32⟩
  | .hbm, ⟨1, _⟩ => ⟨S8, .f32⟩
  | .hbm, ⟨2, _⟩ => ⟨S8, .i32⟩
  | .hbm, ⟨3, _⟩ => ⟨S_, .f32⟩
  | .hbm, ⟨4, _⟩ => ⟨S_, .i32⟩
  | .hbm, ⟨5, _⟩ => ⟨S_, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i1⟩
  | .hbm, ⟨17, _⟩ => ⟨S1, .i1⟩
  | .hbm, ⟨18, _⟩ => ⟨S1, .i1⟩
  | .hbm, ⟨19, _⟩ => ⟨S_, .i1⟩
  | .hbm, ⟨20, _⟩ => ⟨S_, .i1⟩
  | .hbm, ⟨21, _⟩ => ⟨S2x2048x1024, .f32⟩
  | .hbm, ⟨22, _⟩ => ⟨S2x2048x1024, .i1⟩
  | .hbm, ⟨23, _⟩ => ⟨S_, .f32⟩
  | .hbm, ⟨24, _⟩ => ⟨S2x2048x1024, .f32⟩
  | .hbm, ⟨25, _⟩ => ⟨S2x2048x1024, .f32⟩
  | .hbm, ⟨26, _⟩ => ⟨S1x2x2048x1024, .f32⟩
  | .hbm, ⟨27, _⟩ => ⟨S8x2x2048x1024, .f32⟩
  | _, _ => ⟨S8x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_call1_c : Ref sig .tc := ⟨.hbm, 7, rfl⟩
abbrev main_call1_v0 : Ref sig .tc := ⟨.hbm, 8, rfl⟩
abbrev main_call1_c_0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_c_1 : Ref sig .tc := ⟨.hbm, 13, rfl⟩
abbrev main_call1_c_2 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_c_3 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_cst : Ref sig .tc := ⟨.hbm, 23, rfl⟩
abbrev main_call1_v11 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.IdealBlocks.lean ====
/-
  The run of the kernel on two SparseCores of sixteen vector subcores each. Every subcore reads the eight mask values,
  finds the first greatest of them by a running comparison, and copies its 64 rows of that member of the source into
  all eight members of the result, sixteen rows at a time through two buffers.
-/
module

public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch signals on semaphores that are distinct and that no call scopes, and no SparseCore scratch is shared by the subcores. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The argument, the mask, the argument as rows, the result as rows, and the result, on device `d`. -/
abbrev aLoc (d : Dev nD) : Loc nD τ sig := (SparseCore.T d).loc main_arg0
abbrev kLoc (d : Dev nD) : Loc nD τ sig := (SparseCore.T d).loc main_arg1
abbrev sLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "sV" => (Memref.whole main_v0_scv : Memref sig Kind.scVector Space.hbm S16384x2048 EltTy.f32)
local notation "kV" => (Memref.whole main_arg1_scv : Memref sig Kind.scVector Space.hbm S8 EltTy.f32)
local notation "oV" => (Memref.whole main_v1_scv : Memref sig Kind.scVector Space.hbm S16384x2048 EltTy.f32)
local notation "mV" => (Memref.whole cc0_scratch0 : Memref sig Kind.scVector Space.vmem S16 EltTy.f32)
local notation "aV" => (Memref.whole cc0_scratch1 : Memref sig Kind.scVector Space.vmem S16x2048 EltTy.f32)
local notation "bV" => (Memref.whole cc0_scratch2 : Memref sig Kind.scVector Space.vmem S16x2048 EltTy.f32)

/-! ## The block of sixteen rows a copy writes -/

/-- The sixteen rows of the result that subcore `i` writes for member `g` from its quarter `j`. -/
abbrev blk (i : grid0.Coords) (g : Fin 8) (j : Fin 4) : Rect S16384x2048 :=
  Rect.unit (s := S16384x2048) (k0_off3 i (BitVec.ofNat 32 (2048 * g.val)) (BitVec.ofNat 32 (16 * j.val))) S16x2048.size (k0_off3_inb i g j)
abbrev blkM (i : grid0.Coords) (g : Fin 8) (j : Fin 4) : Memref sig .scVector .hbm S16x2048 .f32 := (oV).slice (blk i g j) (fun _ => rfl)
/-- The elements of that block. -/
abbrev blkSet (i : grid0.Coords) (g : Fin 8) (j : Fin 4) : Finset S16384x2048.Idx := (blkM i g j).view.set

/-- A separating conjunction over eight, and over four. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  repeat rw [SparseCore.bigSep_insert' (by decide)]
  rw [bigSep_singleton]
/-- A conjunction over four indices, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  repeat rw [SparseCore.bigSep_insert' (by decide)]
  rw [bigSep_singleton]

/-! ## The member chosen -/

/-- The index chosen by the seven outcomes of the running comparison: the last comparison won names it. -/
def pick (b1 b2 b3 b4 b5 b6 b7 : BitVec 1) : ℕ :=
  if b7 = 1 then 7 else if b6 = 1 then 6 else if b5 = 1 then 5 else if b4 = 1 then 4 else
    if b3 = 1 then 3 else if b2 = 1 then 2 else if b1 = 1 then 1 else 0

/-- The member picked is one of the eight. -/
theorem pick_lt (b1 b2 b3 b4 b5 b6 b7 : BitVec 1) : pick b1 b2 b3 b4 b5 b6 b7 < 8 := by
  unfold pick; split_ifs <;> omega

/-- The selected word, as the program computes it, is that index. -/
theorem select_pick (b1 b2 b3 b4 b5 b6 b7 : BitVec 1) :
    Scalar.select b7 7#32 (Scalar.select b6 6#32 (Scalar.select b5 5#32 (Scalar.select b4 4#32
      (Scalar.select b3 3#32 (Scalar.select b2 2#32 (Scalar.select b1 1#32 0#32)))))) = BitVec.ofNat 32 (pick b1 b2 b3 b4 b5 b6 b7) := by
  unfold pick Scalar.select
  simp only [apply_ite (BitVec.ofNat 32)]

/-- Where a first read starts: the picked member's rows, at the subcore's own. -/
theorem off1_eq (i : grid0.Coords) (b1 b2 b3 b4 b5 b6 b7 : BitVec 1) :
    k0_off1 i b1 b2 b3 b4 b5 b6 b7 = ![2048 * pick b1 b2 b3 b4 b5 b6 b7 + 128 * (i 1).val + 64 * (i 0).val, 0] := by
  have h := pick_lt b1 b2 b3 b4 b5 b6 b7
  have h0 : (i 0).val < 2 := (i 0).isLt
  have h1 : (i 1).val < 16 := (i 1).isLt
  unfold k0_off1
  simp only [select_pick]
  generalize pick b1 b2 b3 b4 b5 b6 b7 = p at *
  congr 1
  simp only [Scalar.addi, Scalar.muli, IntOp.addi, IntOp.muli, BitVec.toNat_add, BitVec.toNat_mul, BitVec.toNat_ofNat]
  omega

/-- The later reads start 16, 32 and 48 rows further. -/
theorem off2_eq (i : grid0.Coords) (b1 b2 b3 b4 b5 b6 b7 : BitVec 1) (r : Fin 3) :
    k0_off2 i b1 b2 b3 b4 b5 b6 b7 (BitVec.ofNat 32 (16 + 16 * r.val))
      = ![2048 * pick b1 b2 b3 b4 b5 b6 b7 + 128 * (i 1).val + 64 * (i 0).val + (16 + 16 * r.val), 0] := by
  have h := pick_lt b1 b2 b3 b4 b5 b6 b7
  have h0 : (i 0).val < 2 := (i 0).isLt
  have h1 : (i 1).val < 16 := (i 1).isLt
  have hr := r.isLt
  unfold k0_off2
  simp only [select_pick]
  generalize pick b1 b2 b3 b4 b5 b6 b7 = p at *
  congr 1
  simp only [Scalar.addi, Scalar.muli, IntOp.addi, IntOp.muli, BitVec.toNat_add, BitVec.toNat_mul, BitVec.toNat_ofNat]
  omega

/-- The greatest of `l 0, …, l n` so far, as the running comparison keeps it. -/
def top [FloatOps F] (l : ℕ → F .f32) : ℕ → F .f32
  | 0 => l 0
  | n + 1 => Scalar.select (Scalar.cmpf .ogt (l (n + 1)) (top l n)) (l (n + 1)) (top l n)

/-- The place it was found at. -/
def best [FloatOps F] (l : ℕ → F .f32) : ℕ → ℕ
  | 0 => 0
  | n + 1 => if Scalar.cmpf .ogt (l (n + 1)) (top l n) = 1 then n + 1 else best l n

/-- The eight mask values by number. -/
def lane (k : FVec F S8 .f32) (n : ℕ) : F .f32 := k (fun | 0 => Fin.ofNat 8 n)

/-- The result's rows: every member is member `p` of the source. -/
def spread (X : FVec F S16384x2048 .f32) (p : ℕ) : FVec F S16384x2048 .f32 := fun x =>
  X (fun | 0 => Fin.ofNat 16384 (2048 * p + (x 0).val % 2048) | 1 => x 1)

/-- Whatever the comparisons say, the rows fetched lie inside the source. -/
theorem chk_all (i : grid0.Coords) (b1 b2 b3 b4 b5 b6 b7 : BitVec 1) : k0_chk1 i b1 b2 b3 b4 b5 b6 b7 := by
  have h := pick_lt b1 b2 b3 b4 b5 b6 b7
  have h0 : (i 0).val < 2 := (i 0).isLt
  have h1 : (i 1).val < 16 := (i 1).isLt
  refine ⟨fun a => ?_, fun r a => ?_⟩
  · rw [off1_eq]
    match a with
    | 0 => show _ + 16 ≤ 16384; simp only [Matrix.cons_val_zero]; omega
    | 1 => exact Nat.le_refl _
  · have hr := r.isLt
    rw [off2_eq]
    match a with
    | 0 => show _ + 16 ≤ 16384; simp only [Matrix.cons_val_zero]; omega
    | 1 => exact Nat.le_refl _

/-! ## What is read, and what lands -/

/-- The index of lane `n` of a load. -/
def at16 (n : ℕ) : S16.Idx := fun | 0 => Fin.ofNat 16 n

/-- The index of entry `n` of the mask. -/
def at8 (n : ℕ) : S8.Idx := fun | 0 => Fin.ofNat 8 n

/-- A lane of the sixteen loaded, as the program extracts it. -/
theorem part_at (v : FVec F S16 .f32) (n : ℕ) (hn : n < 16) (h : S16.Slices ![n] S1) :
    extractAt ![0] (extractStridedSlice S1 ![n] (k0_pay1 v) h) inpos_S1_p0 = v (at16 n) := by
  unfold extractAt
  rw [extractStridedSlice_apply ![n] _ h _ (at16 n) (fun a => match a with | 0 => by show n % 16 = n + 0; omega)]
  show shapeCast S16 v shapeCasts_S16_S16 _ = _
  rw [shapeCast_self]

/-- The seven comparisons over the loaded lanes choose the place of the first greatest of the first eight. -/
theorem pick_best [FloatOps F] (v : FVec F S16 .f32) (l : ℕ → F .f32) (h : ∀ n, n < 8 → v (at16 n) = l n) :
    pick (Scalar.cmpf .ogt (k0_pay3 v) (k0_pay2 v)) (Scalar.cmpf .ogt (k0_pay5 v) (k0_pay4 v)) (Scalar.cmpf .ogt (k0_pay7 v) (k0_pay6 v))
      (Scalar.cmpf .ogt (k0_pay9 v) (k0_pay8 v)) (Scalar.cmpf .ogt (k0_pay11 v) (k0_pay10 v)) (Scalar.cmpf .ogt (k0_pay13 v) (k0_pay12 v))
      (Scalar.cmpf .ogt (k0_pay16 (k0_pay15 v)) (k0_pay14 v)) = best l 7 := by
  have e0 : k0_pay2 v = l 0 := (part_at v 0 (by omega) _).trans (h 0 (by omega))
  have e1 : k0_pay3 v = l 1 := (part_at v 1 (by omega) _).trans (h 1 (by omega))
  have e2 : k0_pay5 v = l 2 := (part_at v 2 (by omega) _).trans (h 2 (by omega))
  have e3 : k0_pay7 v = l 3 := (part_at v 3 (by omega) _).trans (h 3 (by omega))
  have e4 : k0_pay9 v = l 4 := (part_at v 4 (by omega) _).trans (h 4 (by omega))
  have e5 : k0_pay11 v = l 5 := (part_at v 5 (by omega) _).trans (h 5 (by omega))
  have e6 : k0_pay13 v = l 6 := (part_at v 6 (by omega) _).trans (h 6 (by omega))
  have e7 : k0_pay16 (k0_pay15 v) = l 7 := (part_at v 7 (by omega) slices_S16_o7_S1).trans (h 7 (by omega))
  have t1 : k0_pay4 v = top l 1 := by unfold k0_pay4; rw [e0, e1]; rfl
  have t2 : k0_pay6 v = top l 2 := by unfold k0_pay6; rw [t1, e2]; rfl
  have t3 : k0_pay8 v = top l 3 := by unfold k0_pay8; rw [t2, e3]; rfl
  have t4 : k0_pay10 v = top l 4 := by unfold k0_pay10; rw [t3, e4]; rfl
  have t5 : k0_pay12 v = top l 5 := by unfold k0_pay12; rw [t4, e5]; rfl
  have t6 : k0_pay14 v = top l 6 := by unfold k0_pay14; rw [t5, e6]; rfl
  rw [t1, t2, t3, t4, t5, t6, e0, e1, e2, e3, e4, e5, e6, e7]
  rfl

/-- The mask buffer after the eight values are copied into its front, loaded whole: its first eight lanes are the mask's. -/
theorem loaded_lane (fm : Buf (Elt F) ((mV).view.loc (SparseCore.V (0 : Dev nD) (0 : Fin τ.nSC) (0 : Fin τ.nSub)))) (k : FVec F S8 .f32) (n : ℕ) (hn : n < 8) :
    View.readAt (Elt F) (mV).view (Rect.unit (s := S16) ![0] S16.size inb_S16_S16_0).toLoadRect
      ((mV).view.writes (Elt F) fm [⟨Rect.unit (s := S16) ![0] S8.size inb_S16_S8_0, k⟩]) (at16 n) = lane k n := by
  rw [View.readAt_apply]
  exact View.read_writes_cons_hit_of_coords (mV).view fm (Rect.unit (s := S16) ![0] S8.size inb_S16_S8_0) k [] (at8 n) _
    (fun a => by match a with | (0 : Fin 1) => show 0 + 1 * (n % 16) = 0 + 1 * (n % 8); omega)

/-- Sixteen rows of member `p` of the source from row `r` of it. -/
def rowsAt (X : FVec F S16384x2048 .f32) (p r : ℕ) : FVec F S16x2048 .f32 := fun x =>
  X (fun | 0 => Fin.ofNat 16384 (2048 * p + (r + (x 0).val)) | 1 => x 1)

/-- What a copy out of the source reads. -/
theorem fetched (off : Fin 2 → ℕ) (h : ∀ a, off a + S16x2048.size a ≤ S16384x2048.size a) (p r : ℕ) (hoff : off = ![2048 * p + r, 0])
    (X : FVec F S16384x2048 .f32) :
    View.read (Elt F) ((sV).slice (Rect.unit (s := S16384x2048) off S16x2048.size h) (fun _ => rfl)).view X = rowsAt X p r := by
  subst hoff
  have h0 : 2048 * p + r + 16 ≤ 16384 := h 0
  funext x
  have hx : (x 0).val < 16 := (x 0).isLt
  refine congrArg X (funext fun a => Fin.ext ?_)
  match a with
  | 0 => show 2048 * p + r + 1 * (x 0).val = (2048 * p + (r + (x 0).val)) % 16384; omega
  | 1 => show 0 + 1 * (x 1).val = (x 1).val; omega

/-- The first copy reads the first sixteen rows of this subcore's part of the member chosen. -/
theorem fetched_first [FloatOps F] (i : grid0.Coords) (v : FVec F S16 .f32) (l : ℕ → F .f32) (hv : ∀ n, n < 8 → v (at16 n) = l n) (X : FVec F S16384x2048 .f32)
    (h : ∀ a, k0_off1 i (Scalar.cmpf .ogt (k0_pay3 v) (k0_pay2 v)) (Scalar.cmpf .ogt (k0_pay5 v) (k0_pay4 v)) (Scalar.cmpf .ogt (k0_pay7 v) (k0_pay6 v))
      (Scalar.cmpf .ogt (k0_pay9 v) (k0_pay8 v)) (Scalar.cmpf .ogt (k0_pay11 v) (k0_pay10 v)) (Scalar.cmpf .ogt (k0_pay13 v) (k0_pay12 v))
      (Scalar.cmpf .ogt (k0_pay16 (k0_pay15 v)) (k0_pay14 v)) a + S16x2048.size a ≤ S16384x2048.size a) :
    View.read (Elt F) ((sV).slice (Rect.unit (s := S16384x2048) _ S16x2048.size h) (fun _ => rfl)).view X
      = rowsAt X (best l 7) (128 * (i 1).val + 64 * (i 0).val) :=
  fetched _ h _ _ (by rw [off1_eq, pick_best v l hv]; simp [Nat.add_assoc]) X

/-- The later copies read the sixteen rows after. -/
theorem fetched_next [FloatOps F] (i : grid0.Coords) (v : FVec F S16 .f32) (l : ℕ → F .f32) (hv : ∀ n, n < 8 → v (at16 n) = l n) (X : FVec F S16384x2048 .f32)
    (r : Fin 3) (h : ∀ a, k0_off2 i (Scalar.cmpf .ogt (k0_pay3 v) (k0_pay2 v)) (Scalar.cmpf .ogt (k0_pay5 v) (k0_pay4 v)) (Scalar.cmpf .ogt (k0_pay7 v) (k0_pay6 v))
      (Scalar.cmpf .ogt (k0_pay9 v) (k0_pay8 v)) (Scalar.cmpf .ogt (k0_pay11 v) (k0_pay10 v)) (Scalar.cmpf .ogt (k0_pay13 v) (k0_pay12 v))
      (Scalar.cmpf .ogt (k0_pay16 (k0_pay15 v)) (k0_pay14 v)) (BitVec.ofNat 32 (16 + 16 * r.val)) a + S16x2048.size a ≤ S16384x2048.size a) :
    View.read (Elt F) ((sV).slice (Rect.unit (s := S16384x2048) _ S16x2048.size h) (fun _ => rfl)).view X
      = rowsAt X (best l 7) (128 * (i 1).val + 64 * (i 0).val + (16 + 16 * r.val)) :=
  fetched _ h _ _ (by rw [off2_eq, pick_best v l hv]; simp [Nat.add_assoc]) X

/-- Where an element of a block stands among the result's rows. -/
theorem blk_row (i : grid0.Coords) (g : Fin 8) (j : Fin 4) (x : S16x2048.Idx) :
    ((blk i g j).emb x 0 : ℕ) = 2048 * g.val + 128 * (i 1).val + 64 * (i 0).val + 16 * j.val + (x 0).val := by
  rw [Rect.emb_apply]
  show k0_off3 i (BitVec.ofNat 32 (2048 * g.val)) (BitVec.ofNat 32 (16 * j.val)) 0 + 1 * (x 0).val = _
  rw [k0_off3_eq i g j, one_mul]
  rfl

/-- Where an element of a block stands among the result's columns. -/
theorem blk_col (i : grid0.Coords) (g : Fin 8) (j : Fin 4) (x : S16x2048.Idx) : (blk i g j).emb x 1 = x 1 := by
  refine Fin.ext ?_
  rw [Rect.emb_apply]
  show k0_off3 i (BitVec.ofNat 32 (2048 * g.val)) (BitVec.ofNat 32 (16 * j.val)) 1 + 1 * (x 1).val = _
  rw [k0_off3_eq i g j, one_mul]
  exact Nat.zero_add _

/-- The spread of a member, over a block, is sixteen rows of the member. -/
theorem spread_blk (i : grid0.Coords) (g : Fin 8) (j : Fin 4) (p : ℕ) (X : FVec F S16384x2048 .f32) (x : S16x2048.Idx) :
    spread X p ((blk i g j).emb x) = rowsAt X p (128 * (i 1).val + 64 * (i 0).val + 16 * j.val) x := by
  have hi0 : (i 0).val < 2 := (i 0).isLt
  have hi1 : (i 1).val < 16 := (i 1).isLt
  have hx : (x 0).val < 16 := (x 0).isLt
  unfold spread rowsAt
  rw [blk_row, blk_col, show (2048 * g.val + 128 * (i 1).val + 64 * (i 0).val + 16 * j.val + (x 0).val) % 2048
    = 128 * (i 1).val + 64 * (i 0).val + 16 * j.val + (x 0).val by omega]

/-- Contents whose last write covered a view hold, over the view's elements, what reads as the values written. -/
theorem writes_whole {κ : Kind} {sp : Space} {s : Shape} {e : EltTy} {Val : EltTy → Type} (v : View sig κ sp s e) (f G : v.ty.Contents Val)
    (w : s.Idx → Val e) (h : ∀ x, v.read Val G x = w x) : ∀ y ∈ v.set, v.writes Val f [⟨Rect.whole s, w⟩] y = G y := by
  intro y hy
  obtain ⟨x, -, rfl⟩ := Finset.mem_map.mp hy
  have e : v.read Val (v.writes Val f [⟨Rect.whole s, w⟩]) x = v.read Val G x :=
    (View.read_writes_cons_hit_of_coords v f (Rect.whole s) w [] x x (fun a => by show (x a).val = 0 + 1 * (x a).val; omega)).trans (h x).symm
  rw [View.read_apply, View.read_apply] at e
  exact (cast_inj _).mp e

/-- A block whose sixteen rows landed is, over its elements, the block of the spread of that member. -/
theorem landed (i : grid0.Coords) (g : Fin 8) (j : Fin 4) (p : ℕ) (X f : FVec F S16384x2048 .f32) :
    ∀ y ∈ blkSet i g j, (blkM i g j).view.writes (Elt F) f [⟨Rect.whole S16x2048, rowsAt X p (128 * (i 1).val + 64 * (i 0).val + 16 * j.val)⟩] y = spread X p y := by
  have hr (G : FVec F S16384x2048 .f32) (x : S16x2048.Idx) : (blkM i g j).view.read (Elt F) G x = G ((blk i g j).emb x) := rfl
  have hw := writes_whole (Val := Elt F) (blkM i g j).view f (spread X p) (rowsAt X p (128 * (i 1).val + 64 * (i 0).val + 16 * j.val))
    (fun x => (hr (spread X p) x).trans (spread_blk i g j p X x))
  intro y hy
  exact hw y hy

end Cert.KernelIdeal.Run

end
-- ==== Proof.IdealTile.lean ====
/-
  One subcore's run: it reads the mask, finds the first greatest value, and copies its rows of that member of the source
  into all eight members of the result.
-/
module

public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.IdealBlocks

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sV" => (Memref.whole main_v0_scv : Memref sig Kind.scVector Space.hbm S16384x2048 EltTy.f32)
local notation "kV" => (Memref.whole main_arg1_scv : Memref sig Kind.scVector Space.hbm S8 EltTy.f32)
local notation "oV" => (Memref.whole main_v1_scv : Memref sig Kind.scVector Space.hbm S16384x2048 EltTy.f32)
local notation "mV" => (Memref.whole cc0_scratch0 : Memref sig Kind.scVector Space.vmem S16 EltTy.f32)
local notation "aV" => (Memref.whole cc0_scratch1 : Memref sig Kind.scVector Space.vmem S16x2048 EltTy.f32)
local notation "bV" => (Memref.whole cc0_scratch2 : Memref sig Kind.scVector Space.vmem S16x2048 EltTy.f32)

variable [FloatOps F]

section Tile

variable (d : Dev nD) (i : grid0.Coords)

abbrev cV (i : grid0.Coords) : Fin τ.nSC := (i 0).castLE hcore0
abbrev jV (i : grid0.Coords) : Fin τ.nSub := (i 1).castLE hsub0
/-- The vector subcore at coordinates `i`. -/
abbrev thr (d : Dev nD) (i : grid0.Coords) : Thread nD τ := V d (cV i) (jV i)

abbrev cellM (d : Dev nD) (i : grid0.Coords) : GSem nD τ sig := (thr d i, .dma cc0_scoped0.sem)
abbrev cellA (d : Dev nD) (i : grid0.Coords) : GSem nD τ sig := (thr d i, .dma cc0_scratch3.sem)
abbrev cellB (d : Dev nD) (i : grid0.Coords) : GSem nD τ sig := (thr d i, .dma cc0_scratch4.sem)
abbrev cellC (d : Dev nD) (i : grid0.Coords) : GSem nD τ sig := (thr d i, .dma cc0_scratch5.sem)
abbrev cellD (d : Dev nD) (i : grid0.Coords) : GSem nD τ sig := (thr d i, .dma cc0_scratch6.sem)

omit [FloatOps F] in
/-- A subcore's own transfer counter is one of its cells. -/
theorem mem_cell (n : DmaSems sig S_) (h : (SemLoc.dma n.sem : SemLoc sig).isScoped .scVector = true) :
    ((thr d i, .dma n.sem) : GSem nD τ sig) ∈ ownCells (thr d i) := mem_ownCells.mpr ⟨rfl, h⟩

omit [FloatOps F] in
/-- The five transfer counters of a subcore, and the rest of its cells. -/
theorem ownSems0_V :
    (ownSems0 (thr d i) : sProp 𝕄)
      = iprop(semVal (cellM d i) 0 ∗ semVal (cellA d i) 0 ∗ semVal (cellB d i) 0 ∗ semVal (cellC d i) 0 ∗ semVal (cellD d i) 0
          ∗ bigSep ((((((ownCells (thr d i)).erase (cellM d i)).erase (cellA d i)).erase (cellB d i)).erase (cellC d i)).erase (cellD d i)) fun g => semVal g 0) := by
  unfold SparseCore.Cfg.ownSems0
  have ne {x y : Fin 5} (h : x ≠ y) : ((thr d i, .dma x) : GSem nD τ sig) ≠ (thr d i, .dma y) := fun e => h (by
    injection e with _ e; injection e)
  have hM := mem_cell d i cc0_scoped0 (by decide)
  have hA : cellA d i ∈ (ownCells (thr d i)).erase (cellM d i) := Finset.mem_erase.mpr ⟨ne (x := 0) (y := 4) (by decide), mem_cell d i cc0_scratch3 (by decide)⟩
  have hB : cellB d i ∈ ((ownCells (thr d i)).erase (cellM d i)).erase (cellA d i) := Finset.mem_erase.mpr ⟨ne (x := 1) (y := 0) (by decide), Finset.mem_erase.mpr ⟨ne (x := 1) (y := 4) (by decide), mem_cell d i cc0_scratch4 (by decide)⟩⟩
  have hC : cellC d i ∈ (((ownCells (thr d i)).erase (cellM d i)).erase (cellA d i)).erase (cellB d i) := Finset.mem_erase.mpr ⟨ne (x := 2) (y := 1) (by decide), Finset.mem_erase.mpr ⟨ne (x := 2) (y := 0) (by decide),
    Finset.mem_erase.mpr ⟨ne (x := 2) (y := 4) (by decide), mem_cell d i cc0_scratch5 (by decide)⟩⟩⟩
  have hD : cellD d i ∈ ((((ownCells (thr d i)).erase (cellM d i)).erase (cellA d i)).erase (cellB d i)).erase (cellC d i) := Finset.mem_erase.mpr ⟨ne (x := 3) (y := 2) (by decide), Finset.mem_erase.mpr ⟨ne (x := 3) (y := 1) (by decide),
    Finset.mem_erase.mpr ⟨ne (x := 3) (y := 0) (by decide), Finset.mem_erase.mpr ⟨ne (x := 3) (y := 4) (by decide), mem_cell d i cc0_scratch6 (by decide)⟩⟩⟩⟩
  rw [SparseCore.bigSep_erase' hM]
  rw [SparseCore.bigSep_erase' hA]
  rw [SparseCore.bigSep_erase' hB]
  rw [SparseCore.bigSep_erase' hC]
  rw [SparseCore.bigSep_erase' hD]

omit [FloatOps F] in
/-- The three scratch buffers of a subcore at some contents, and the rest of its buffers. -/
theorem ownBufs_V :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  unfold SparseCore.Cfg.ownBufs
  have own (b : Ref sig .scVector) (h : ((Proc.scVector (cV i) (jV i)).devRef b).owner = .proc (.scVector (cV i) (jV i))) :
      (Proc.scVector (cV i) (jV i)).devRef b ∈ ownRefs (τ := τ) (.scVector (cV i) (jV i)) := SparseCore.Cfg.mem_ownRefs_of_owner h
  have ne {x y : Ref sig .scVector} (h : x ≠ y) : (Proc.scVector (cV i) (jV i)).devRef x ≠ (Proc.scVector (cV i) (jV i)).devRef y :=
    fun e => h (Proc.devRef_injective _ e)
  have h0 := own cc0_scratch0 rfl
  have h1 := Finset.mem_erase.mpr ⟨ne (x := cc0_scratch1) (y := cc0_scratch0) (by decide), own cc0_scratch1 rfl⟩
  have h2 := Finset.mem_erase.mpr ⟨ne (x := cc0_scratch2) (y := cc0_scratch1) (by decide),
    Finset.mem_erase.mpr ⟨ne (x := cc0_scratch2) (y := cc0_scratch0) (by decide), own cc0_scratch2 rfl⟩⟩
  refine (SparseCore.bigSep_erase' h0).trans ?_
  rw [SparseCore.bigSep_erase' h1, SparseCore.bigSep_erase' h2]

omit [FloatOps F] in
/-- The mask as the subcore names it is the mask as the device names it. -/
theorem pts_k (q : PosShare TreeShare) (f : Buf (Elt F) (kLoc d)) :
    ((kV).view.loc (thr d i) ↦{q} f : sProp 𝕄) = kLoc d ↦{q} f := rfl
omit [FloatOps F] in
/-- The same, of the source rows. -/
theorem pts_s (q : PosShare TreeShare) (f : Buf (Elt F) (sLoc d)) :
    ((sV).view.loc (thr d i) ↦{q} f : sProp 𝕄) = sLoc d ↦{q} f := rfl
/-- The block at the member's and the quarter's row words, as the program passes them. -/
def memW (i : grid0.Coords) (a b : BitVec 32) (h : ∀ x, k0_off3 i a b x + S16x2048.size x ≤ S16384x2048.size x) : Memref sig .scVector .hbm S16x2048 .f32 :=
  (oV).slice (Rect.unit (s := S16384x2048) (k0_off3 i a b) S16x2048.size h) (fun _ => rfl)

/-- A slice of the result at one of the kernel's offsets is the block there. -/
theorem memW_eq (i : grid0.Coords) (a b : BitVec 32) (h : ∀ x, k0_off3 i a b x + ![16, 2048] x ≤ S16384x2048.size x) (h' : ∀ x, (Rect.unit (s := S16384x2048) (k0_off3 i a b) ![16, 2048] h).stride x = 1) :
    (oV).slice (Rect.unit (s := S16384x2048) (k0_off3 i a b) ![16, 2048] h) h' = memW i a b h := by
  unfold memW; rfl

/-- The block's points-to, spelt as the program passes the block. -/
abbrev wPt (d : Dev nD) (i : grid0.Coords) (a b : BitVec 32) (h : ∀ x, k0_off3 i a b x + S16x2048.size x ≤ S16384x2048.size x) (f : Buf (Elt F) (oLoc d)) : sProp 𝕄 :=
  (memW i a b h).view.loc (thr d i) ↦[(memW i a b h).view.set]{fullShare} f

omit [FloatOps F] in
/-- A block of the result, as the kernel slices it, is that block. -/
theorem pts_o (g : Fin 8) (j : Fin 4) (a b : BitVec 32) (ha : BitVec.ofNat 32 (2048 * g.val) = a) (hb : BitVec.ofNat 32 (16 * j.val) = b)
    (h : ∀ x, k0_off3 i a b x + S16x2048.size x ≤ S16384x2048.size x) (f : Buf (Elt F) (oLoc d)) :
    (oLoc d ↦[blkSet i g j]{fullShare} f : sProp 𝕄) = wPt d i a b h f := by
  subst ha hb; rfl

/-- The kernel's slices of the result stay inside it. -/
theorem inW (i : grid0.Coords) (g : Fin 8) (j : Fin 4) (a b : BitVec 32) (ha : BitVec.ofNat 32 (2048 * g.val) = a) (hb : BitVec.ofNat 32 (16 * j.val) = b) :
    ∀ x, k0_off3 i a b x + S16x2048.size x ≤ S16384x2048.size x := by
  subst ha hb; exact k0_off3_inb i g j

omit [FloatOps F] in
/-- One quarter's eight blocks, spelt so. -/
theorem quarter_eq (j : Fin 4) (b : BitVec 32) (hb : BitVec.ofNat 32 (16 * j.val) = b) (f : Buf (Elt F) (oLoc d)) :
    (bigSep Finset.univ fun g : Fin 8 => (oLoc d ↦[blkSet i g j]{fullShare} f : sProp 𝕄))
      = iprop(wPt d i 0#32 b (inW i 0 j _ b rfl hb) f ∗ wPt d i 2048#32 b (inW i 1 j _ b rfl hb) f ∗ wPt d i 4096#32 b (inW i 2 j _ b rfl hb) f
          ∗ wPt d i 6144#32 b (inW i 3 j _ b rfl hb) f ∗ wPt d i 8192#32 b (inW i 4 j _ b rfl hb) f ∗ wPt d i 10240#32 b (inW i 5 j _ b rfl hb) f
          ∗ wPt d i 12288#32 b (inW i 6 j _ b rfl hb) f ∗ wPt d i 14336#32 b (inW i 7 j _ b rfl hb) f) := by
  rw [bigSep_eight, pts_o d i 0 j 0#32 b rfl hb (inW i 0 j _ b rfl hb), pts_o d i 1 j 2048#32 b rfl hb (inW i 1 j _ b rfl hb), pts_o d i 2 j 4096#32 b rfl hb (inW i 2 j _ b rfl hb),
    pts_o d i 3 j 6144#32 b rfl hb (inW i 3 j _ b rfl hb), pts_o d i 4 j 8192#32 b rfl hb (inW i 4 j _ b rfl hb), pts_o d i 5 j 10240#32 b rfl hb (inW i 5 j _ b rfl hb),
    pts_o d i 6 j 12288#32 b rfl hb (inW i 6 j _ b rfl hb), pts_o d i 7 j 14336#32 b rfl hb (inW i 7 j _ b rfl hb)]

omit [FloatOps F] in
/-- The mask's scratch, held as a view, is the scratch held whole. -/
theorem pts_m (f : Buf (Elt F) ((thr d i).loc cc0_scratch0)) :
    ((mV).view.loc (thr d i) ↦{fullShare} f : sProp 𝕄) = (thr d i).loc cc0_scratch0 ↦{fullShare} f := rfl
omit [FloatOps F] in
/-- The same, of the first buffer. -/
theorem pts_a (f : Buf (Elt F) ((thr d i).loc cc0_scratch1)) :
    ((aV).view.loc (thr d i) ↦{fullShare} f : sProp 𝕄) = (thr d i).loc cc0_scratch1 ↦{fullShare} f := rfl
omit [FloatOps F] in
/-- The same, of the second buffer. -/
theorem pts_b (f : Buf (Elt F) ((thr d i).loc cc0_scratch2)) :
    ((bV).view.loc (thr d i) ↦{fullShare} f : sProp 𝕄) = (thr d i).loc cc0_scratch2 ↦{fullShare} f := rfl

/-- A subcore's 32 blocks of the result at contents `f`. -/
abbrev outPts (d : Dev nD) (i : grid0.Coords) (f : Buf (Elt F) (oLoc d)) : sProp 𝕄 :=
  bigSep Finset.univ fun j : Fin 4 => bigSep Finset.univ fun g : Fin 8 => oLoc d ↦[blkSet i g j]{fullShare} f

omit [FloatOps F] in
/-- A block that landed, spelt as the program passes it. -/
theorem landed_pt (g : Fin 8) (j : Fin 4) (a b : BitVec 32) (ha : BitVec.ofNat 32 (2048 * g.val) = a) (hb : BitVec.ofNat 32 (16 * j.val) = b)
    (h : ∀ x, k0_off3 i a b x + S16x2048.size x ≤ S16384x2048.size x) (f X : Buf (Elt F) (oLoc d)) (p : ℕ) (pay : FVec F S16x2048 .f32)
    (hpay : pay = rowsAt X p (128 * (i 1).val + 64 * (i 0).val + 16 * j.val)) :
    wPt d i a b h ((memW i a b h).view.writes (Elt F) f [⟨Rect.whole S16x2048, pay⟩]) = wPt d i a b h (spread X p) := by
  subst ha hb hpay
  exact pointsTo_congr (landed i g j p X f)

omit [FloatOps F] in
/-- A quarter whose eight blocks landed holds the spread. -/
theorem quarter_landed (j : Fin 4) (b : BitVec 32) (hb : BitVec.ofNat 32 (16 * j.val) = b) (f X : Buf (Elt F) (oLoc d)) (p : ℕ) (pay : FVec F S16x2048 .f32)
    (hpay : pay = rowsAt X p (128 * (i 1).val + 64 * (i 0).val + 16 * j.val)) :
    let w (a : BitVec 32) (h : ∀ x, k0_off3 i a b x + S16x2048.size x ≤ S16384x2048.size x) : sProp 𝕄 :=
      wPt d i a b h ((memW i a b h).view.writes (Elt F) f [⟨Rect.whole S16x2048, pay⟩])
    iprop(w 0#32 (inW i 0 j _ b rfl hb) ∗ w 2048#32 (inW i 1 j _ b rfl hb) ∗ w 4096#32 (inW i 2 j _ b rfl hb) ∗ w 6144#32 (inW i 3 j _ b rfl hb)
        ∗ w 8192#32 (inW i 4 j _ b rfl hb) ∗ w 10240#32 (inW i 5 j _ b rfl hb) ∗ w 12288#32 (inW i 6 j _ b rfl hb) ∗ w 14336#32 (inW i 7 j _ b rfl hb))
      ⊢ bigSep Finset.univ fun g : Fin 8 => (oLoc d ↦[blkSet i g j]{fullShare} spread X p : sProp 𝕄) := by
  intro w
  rw [quarter_eq d i j b hb (spread X p)]
  have e (g : Fin 8) (a : BitVec 32) (ha : BitVec.ofNat 32 (2048 * g.val) = a) (h) : w a h = wPt d i a b h (spread X p) := landed_pt d i g j a b ha hb h f X p pay hpay
  rw [e 0 0#32 rfl, e 1 2048#32 rfl, e 2 4096#32 rfl, e 3 6144#32 rfl, e 4 8192#32 rfl, e 5 10240#32 rfl, e 6 12288#32 rfl, e 7 14336#32 rfl]

omit [FloatOps F] in
/-- One more wait without an index keeps the record of waits within what it may hold. -/
theorem recorded {W W' : Waits sig (HIx 1)} {s : SemLoc sig} (h : ∀ p ∈ W', p ∈ W ∨ p.2 = none) :
    ∀ p ∈ insert (s, (default : HIx 1)) W', p ∈ W ∨ p.2 = none := fun p hp =>
  (Finset.mem_insert.mp hp).elim (fun e => .inr (e ▸ rfl)) (h p)

set_option maxHeartbeats 4000000 in
/-- One subcore's run: from a share of the source rows `X`, a share of the mask `k` and its own 32 blocks of the result at any
    contents, it ends with the same shares and the blocks holding `X`'s rows of the member the mask chooses. -/
theorem tile_body [∀ e, Nonempty (Elt F e)] (hF : (K (F := F)).Facts) (O : CellTallies nD τ sig (HIx 1)) (W : Waits sig (HIx 1)) (hO : ∀ g, O g none = 0)
    (q q' : PosShare TreeShare) (X : Buf (Elt F) (sLoc d)) (k : Buf (Elt F) (kLoc d)) (f : Buf (Elt F) (oLoc d)) :
    iprop(levAts (K (F := F)).L (K (F := F)).lev ∗ emp
        ∗ ((sLoc d ↦{q} X) ∗ (kLoc d ↦{q'} k) ∗ outPts d i f)
        ∗ scopedBufs (thr d i) ∗ scopedSems0 (thr d i) ∗ owes (thr d i) O W)
      ⊢ wp frame (wpE (defs₀ (F := F)) 𝒱₀ (thr d i) none) Set.univ
          (cc0__sc_select_broadcast i sV (Memref.isWhole_whole _) kV (Memref.isWhole_whole _) oV (Memref.isWhole_whole _)
            mV (Memref.isWhole_whole _) aV (Memref.isWhole_whole _) bV (Memref.isWhole_whole _)
            cc0_scratch3 cc0_scratch4 cc0_scratch5 cc0_scratch6 cc0_scoped0)
          fun _ => iprop(((sLoc d ↦{q} X) ∗ (kLoc d ↦{q'} k) ∗ outPts d i (spread X (best (lane k) 7)))
            ∗ scopedBufs (thr d i) ∗ scopedSems0 (thr d i)
            ∗ ∃ W', ⌜∀ p ∈ W', p ∈ W ∨ p.2 = none⌝ ∗ owes (thr d i) O W') := by
  have planC : Transfers.BatchOf (thr d i) (SemLoc.dma (sig := sig) cc0_scratch5.sem) 8 (windows := true) := trivial
  have planD : Transfers.BatchOf (thr d i) (SemLoc.dma (sig := sig) cc0_scratch6.sem) 8 (windows := true) := trivial
  have hchk := chk_all i
  simp -implicitDefEqProofs only [cc0__sc_select_broadcast_eq_skeleton, cc0__sc_select_broadcast_skel, k0_part1_eq_skeleton, k0_part1_skel, k0_part2_eq_skeleton, k0_part2_skel,
    k0_part3_eq_skeleton, k0_part3_skel, k0_part4_eq_skeleton, k0_part4_skel, k0_part5_eq_skeleton, k0_part5_skel, k0_part6_eq_skeleton, k0_part6_skel,
    k0_part7_eq_skeleton, k0_part7_skel, k0_part8_eq_skeleton, k0_part8_skel, memW_eq]
  rw [(K (F := F)).scopedBufs_V hF d (cV i) (jV i), SparseCore.Cfg.scopedSems0_V (Val := Elt F) d (cV i) (jV i), ownSems0_V, ownBufs_V]
  simp only [outPts, bigSep_four, ← pts_k d i, ← pts_s d i, ← pts_m d i, ← pts_a d i, ← pts_b d i]
  rw [quarter_eq d i 0 0#32 rfl f, quarter_eq d i 1 16#32 rfl f, quarter_eq d i 2 32#32 rfl f, quarter_eq d i 3 48#32 rfl f]
  iintro ⟨#Hlv, -, ⟨Hs, Hk, ⟨⟨Ha0, Ha1, Ha2, Ha3, Ha4, Ha5, Ha6, Ha7⟩, ⟨Hb0, Hb1, Hb2, Hb3, Hb4, Hb5, Hb6, Hb7⟩,
      ⟨Hc0, Hc1, Hc2, Hc3, Hc4, Hc5, Hc6, Hc7⟩, ⟨Hd0, Hd1, Hd2, Hd3, Hd4, Hd5, Hd6, Hd7⟩⟩⟩,
    ⟨⟨%fm, Hm⟩, ⟨%fa, Ha⟩, ⟨%fb, Hb⟩, Hbufs⟩, ⟨HsM, HsA, HsB, HsC, HsD, Hsems⟩, HO⟩
  ihave Hmw := (show levAts (K (F := F)).L (K (F := F)).lev ⊢ Transfers.MayWaits (thr d i) (default : HIx 1) O from
    (K (F := F)).mayWaits_none (thr := thr d i) hO) $$ Hlv
  sl_exec
  have hv : ∀ n, n < 8 → tile_body.sl.v3 d i k fm (at16 n) = lane k n := fun n hn => loaded_lane fm k n hn
  have p0 : tile_body.sl.dma4 d i X k hchk fm fa = rowsAt X (best (lane k) 7) (128 * (i 1).val + 64 * (i 0).val + 16 * (0 : Fin 4).val) :=
    (View.read_write_univ _ _).trans (fetched_first i (tile_body.sl.v3 d i k fm) (lane k) hv X _)
  have p1 : tile_body.sl.dma13 d i X k hchk fm fb = rowsAt X (best (lane k) 7) (128 * (i 1).val + 64 * (i 0).val + 16 * (1 : Fin 4).val) :=
    (View.read_write_univ _ _).trans (fetched_next i (tile_body.sl.v3 d i k fm) (lane k) hv X 0 _)
  have p2 : tile_body.sl.dma22 d i X k hchk fm fa = rowsAt X (best (lane k) 7) (128 * (i 1).val + 64 * (i 0).val + 16 * (2 : Fin 4).val) :=
    (View.read_write_univ _ _).trans (fetched_next i (tile_body.sl.v3 d i k fm) (lane k) hv X 1 _)
  have p3 : tile_body.sl.dma30 d i X k hchk fm fb = rowsAt X (best (lane k) 7) (128 * (i 1).val + 64 * (i 0).val + 16 * (3 : Fin 4).val) :=
    (View.read_write_univ _ _).trans (fetched_next i (tile_body.sl.v3 d i k fm) (lane k) hv X 2 _)
  sl_step
  isplitl [Hs Hk Ha0 Ha1 Ha2 Ha3 Ha4 Ha5 Ha6 Ha7 Hb0 Hb1 Hb2 Hb3 Hb4 Hb5 Hb6 Hb7 Hc0 Hc1 Hc2 Hc3 Hc4 Hc5 Hc6 Hc7 Hd0 Hd1 Hd2 Hd3 Hd4 Hd5 Hd6 Hd7]
  · isplitl [Hs]; · iexact Hs
    isplitl [Hk]; · iexact Hk
    isplitl [Ha0 Ha1 Ha2 Ha3 Ha4 Ha5 Ha6 Ha7]
    · iapply (quarter_landed d i 0 0#32 rfl f X (best (lane k) 7) _ p0)
      iframe
    isplitl [Hb0 Hb1 Hb2 Hb3 Hb4 Hb5 Hb6 Hb7]
    · iapply (quarter_landed d i 1 16#32 rfl f X (best (lane k) 7) _ p1)
      iframe
    isplitl [Hc0 Hc1 Hc2 Hc3 Hc4 Hc5 Hc6 Hc7]
    · iapply (quarter_landed d i 2 32#32 rfl f X (best (lane k) 7) _ p2)
      iframe
    · iapply (quarter_landed d i 3 48#32 rfl f X (best (lane k) 7) _ p3)
      iframe
  isplitl [Hm Ha Hb Hbufs]
  · isplitl [Hm]; · iexists _; iexact Hm
    isplitl [Ha]; · iexists _; iexact Ha
    isplitl [Hb]; · iexists _; iexact Hb
    iexact Hbufs
  isplitl [HsM HsA HsB HsC HsD Hsems]
  · isplitl [HsM]; · iexact HsM
    isplitl [HsA]; · iexact HsA
    isplitl [HsB]; · iexact HsB
    isplitl [HsC]; · iexact HsC
    isplitl [HsD]; · iexact HsD
    iexact Hsems
  iexists _; isplitr
  swap; · iexact HO
  ipureintro
  repeat first | exact fun _ h => .inl h | refine recorded ?_

end Tile

end Cert.KernelIdeal.Run

end
-- ==== Proof.IdealRun.lean ====
/-
  The launch: what the call hands each subcore and takes back, how the result splits into the subcores' blocks, @main on
  the TensorCore, and the whole program's run with the contents its result ends at.
-/
module

public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.IdealTile

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.ShareLeaves (leaf pointsTo_leaves)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "sV" => (Memref.whole main_v0_scv : Memref sig Kind.scVector Space.hbm S16384x2048 EltTy.f32)
local notation "kV" => (Memref.whole main_arg1_scv : Memref sig Kind.scVector Space.hbm S8 EltTy.f32)
local notation "oV" => (Memref.whole main_v1_scv : Memref sig Kind.scVector Space.hbm S16384x2048 EltTy.f32)
local notation "mV" => (Memref.whole cc0_scratch0 : Memref sig Kind.scVector Space.vmem S16 EltTy.f32)
local notation "aV" => (Memref.whole cc0_scratch1 : Memref sig Kind.scVector Space.vmem S16x2048 EltTy.f32)
local notation "bV" => (Memref.whole cc0_scratch2 : Memref sig Kind.scVector Space.vmem S16x2048 EltTy.f32)

/-! ## The result is its blocks -/

/-- The coordinates of subcore `s` of SparseCore `c`. -/
def at2 (c : Fin 2) (s : Fin 16) : grid0.Coords := fun | 0 => c | 1 => s | ⟨_ + 2, h⟩ => absurd h (Nat.not_lt.2 (Nat.le_add_left _ _))

/-- The blocks, numbered by SparseCore, subcore, quarter and member. -/
abbrev blkOf (t : (Fin 2 × Fin 16) × (Fin 4 × Fin 8)) : Finset S16384x2048.Idx := blkSet (at2 t.1.1 t.1.2) t.2.2 t.2.1

/-- A block holds sixteen consecutive rows. -/
theorem mem_blkOf (t : (Fin 2 × Fin 16) × (Fin 4 × Fin 8)) (y : S16384x2048.Idx) :
    y ∈ blkOf t ↔ 2048 * t.2.2.val + 128 * t.1.2.val + 64 * t.1.1.val + 16 * t.2.1.val ≤ (y 0).val
      ∧ (y 0).val < 2048 * t.2.2.val + 128 * t.1.2.val + 64 * t.1.1.val + 16 * t.2.1.val + 16 := by
  have e : blkOf t = (blk (at2 t.1.1 t.1.2) t.2.2 t.2.1).set := View.set_slice_whole _ _
  have o := k0_off3_eq (at2 t.1.1 t.1.2) t.2.2 t.2.1
  rw [e, Rect.mem_set_unit]
  constructor
  · intro h
    have h0 := h 0
    rw [o] at h0
    exact h0
  · intro h a
    rw [o]
    match a with
    | 0 => exact h
    | 1 => exact ⟨Nat.zero_le _, by have h1 := (y 1).isLt; exact (Nat.zero_add _).symm ▸ h1⟩

/-- Two blocks share no element. -/
theorem blkOf_disjoint : ∀ t ∈ (Finset.univ : Finset ((Fin 2 × Fin 16) × (Fin 4 × Fin 8))), ∀ t' ∈ (Finset.univ : Finset ((Fin 2 × Fin 16) × (Fin 4 × Fin 8))),
    t ≠ t' → Disjoint (blkOf t) (blkOf t') := by
  rintro ⟨⟨c, s⟩, ⟨j, g⟩⟩ - ⟨⟨c', s'⟩, ⟨j', g'⟩⟩ - hne
  rw [Finset.disjoint_left]
  intro y hy hy'
  refine hne ?_
  have h := (mem_blkOf _ _).mp hy
  have h' := (mem_blkOf _ _).mp hy'
  simp only at h h'
  have := c.isLt; have := s.isLt; have := j.isLt; have := g.isLt
  have := c'.isLt; have := s'.isLt; have := j'.isLt; have := g'.isLt
  have eg : g = g' := Fin.ext (by omega)
  have es : s = s' := Fin.ext (by omega)
  have ec : c = c' := Fin.ext (by omega)
  have ej : j = j' := Fin.ext (by omega)
  rw [eg, es, ec, ej]

/-- Every element lies in a block. -/
theorem blkOf_cover : (Finset.univ : Finset ((Fin 2 × Fin 16) × (Fin 4 × Fin 8))).biUnion blkOf = Finset.univ := by
  ext y
  have hy : (y 0).val < 16384 := (y 0).isLt
  obtain ⟨t, ht⟩ : ∃ t, y ∈ blkOf t :=
    ⟨((⟨(y 0).val % 128 / 64, by omega⟩, ⟨(y 0).val % 2048 / 128, by omega⟩), (⟨(y 0).val % 64 / 16, by omega⟩, ⟨(y 0).val / 2048, by omega⟩)),
      (mem_blkOf _ y).mpr ⟨by simp only; omega, by simp only; omega⟩⟩
  refine ⟨fun _ => Finset.mem_univ y, fun _ => ?_⟩
  rw [Finset.mem_biUnion]
  exact ⟨t, Finset.mem_univ t, ht⟩

/-- The result held whole is every subcore's blocks. -/
theorem out_split (d : Dev nD) (f : Buf (Elt F) (oLoc d)) :
    (oLoc d ↦{fullShare} f : sProp 𝕄) = bigSep Finset.univ fun c : Fin 2 => bigSep Finset.univ fun s : Fin 16 => outPts d (at2 c s) f := by
  have h : (oLoc d ↦{fullShare} f : sProp 𝕄) = bigSep Finset.univ fun t => oLoc d ↦[blkOf t]{fullShare} f := by
    rw [← pointsTo_biUnion Finset.univ (ℓ := oLoc d) blkOf blkOf_disjoint, blkOf_cover]
  rw [h, bigSep_univ_prod, bigSep_univ_prod]
  exact bigSep_congr fun c _ => bigSep_congr fun s _ => bigSep_univ_prod _

/-! ## What the handshakes carry -/

/-- Subcore `s` of SparseCore `c`'s share of an array that every subcore reads. -/
abbrev shr (c : Fin 2) (s : Fin 16) : PosShare TreeShare := leaf 4 (leaf 1 fullShare c) s

/-- An array held whole is the subcores' shares of it. -/
theorem read_split {ℓ : Loc nD τ sig} (f : Buf (Elt F) ℓ) :
    (ℓ ↦{fullShare} f : sProp 𝕄) = bigSep Finset.univ fun c : Fin 2 => bigSep Finset.univ fun s : Fin 16 => ℓ ↦{shr c s} f :=
  (pointsTo_leaves Finset.univ f 1 fullShare).trans (bigSep_congr fun c _ => pointsTo_leaves Finset.univ f 4 (leaf 1 fullShare c))

/-- What a subcore is handed and hands back: its shares of the source rows and of the mask, and its blocks. -/
abbrev tileP (d : Dev nD) (X : Buf (Elt F) (sLoc d)) (k : Buf (Elt F) (kLoc d)) (f : Buf (Elt F) (oLoc d)) (c : Fin 2) (s : Fin 16) : sProp 𝕄 :=
  iprop((sLoc d ↦{shr c s} X) ∗ (kLoc d ↦{shr c s} k) ∗ outPts d (at2 c s) f)

/-- The three arrays held whole are what the subcores are handed. -/
theorem tiles_split (d : Dev nD) (X : Buf (Elt F) (sLoc d)) (k : Buf (Elt F) (kLoc d)) (f : Buf (Elt F) (oLoc d)) :
    iprop((sLoc d ↦{fullShare} X) ∗ (kLoc d ↦{fullShare} k) ∗ oLoc d ↦{fullShare} f)
      = (bigSep Finset.univ fun c : Fin 2 => bigSep Finset.univ fun s : Fin 16 => tileP d X k f c s : sProp 𝕄) := by
  rw [read_split X, read_split k, out_split, ← bigSep_sep', ← bigSep_sep']
  exact bigSep_congr fun c _ => by rw [← bigSep_sep', ← bigSep_sep']

variable [FloatOps F]
variable (m : (ℓ : Loc nD τ sig) → Buf (Elt F) ℓ) (ρ : Dev nD → PrngReg)

abbrev a' : DevRef τ sig := Proc.devRef .tc (main_arg0 : Ref sig .tc)
abbrev k' : DevRef τ sig := Proc.devRef .tc (main_arg1 : Ref sig .tc)
abbrev s' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The reshape before the call, and the one after it. -/
abbrev opIn : HloOp τ sig (Elt F) := StableHlo.reshape main_arg0 main_v0 (rfl : (EltTy.f32 : EltTy) = .f32) shapeCasts_S8x2x2048x1024_S16384x2048
abbrev opOut : HloOp τ sig (Elt F) := StableHlo.reshape main_v1 main_v2 (rfl : (EltTy.f32 : EltTy) = .f32) shapeCasts_S16384x2048_S8x2x2048x1024

/-- The arrays' contents at launch, before the call, after it, and at the end. -/
def V0 (d : Dev nD) : Valuation τ sig (Elt F) := fun b => m (d, b)
def V1 (d : Dev nD) : Valuation τ sig (Elt F) := (opIn (F := F)).result (V0 m d)
abbrev srcV (d : Dev nD) : Buf (Elt F) (sLoc d) := V1 m d s'
abbrev maskV (d : Dev nD) : Buf (Elt F) (kLoc d) := V1 m d k'
abbrev outV (d : Dev nD) : Buf (Elt F) (oLoc d) := spread (srcV m d) (best (lane (maskV m d)) 7)
def V2 (d : Dev nD) : Valuation τ sig (Elt F) := Function.update (V1 m d) o' (outV m d)
def V3 (d : Dev nD) : Valuation τ sig (Elt F) := (opOut (F := F)).result (V2 m d)

/-- The call takes the source rows, the mask and the result, and every subcore its part of them; the result comes back at
    the rows of the member chosen. -/
def P : (K (F := F)).Pay (nD := nD) (Val := Elt F) (Name := ℕ) (U := UU) where
  st := fun q d c => match q with | 0 => bigSep Finset.univ fun s : Fin 16 => tileP d (srcV m d) (maskV m d) (V1 m d o') c s
  dn := fun q d c => match q with | 0 => bigSep Finset.univ fun s : Fin 16 => tileP d (srcV m d) (maskV m d) (outV m d) c s
  go := fun q d c s => match q with | 0 => tileP d (srcV m d) (maskV m d) (V1 m d o') c s
  td := fun q d c s => match q with | 0 => tileP d (srcV m d) (maskV m d) (outV m d) c s
  x := fun _ _ => iprop(emp)

/-- Everything a handshake carries may be kept in an invariant. -/
instance P_storable : (P (F := F) m).IsStorable where
  st q d c := match q with
    | 0 => (inferInstance : BI.Storable (upEmb : UEmb _ 𝕄) (bigSep Finset.univ fun s : Fin 16 => tileP d (srcV m d) (maskV m d) (V1 m d o') c s))
  dn q d c := match q with
    | 0 => (inferInstance : BI.Storable (upEmb : UEmb _ 𝕄) (bigSep Finset.univ fun s : Fin 16 => tileP d (srcV m d) (maskV m d) (outV m d) c s))
  go q d c s := match q with
    | 0 => (inferInstance : BI.Storable (upEmb : UEmb _ 𝕄) (tileP d (srcV m d) (maskV m d) (V1 m d o') c s))
  td q d c s := match q with
    | 0 => (inferInstance : BI.Storable (upEmb : UEmb _ 𝕄) (tileP d (srcV m d) (maskV m d) (outV m d) c s))

/-- The subcores' parts are what each SparseCore is handed. -/
theorem vecSplit : (K (F := F)).VecSplit' (P m) 0 := by
  intro d c
  show (bigSep Finset.univ fun s : Fin 16 => tileP d (srcV m d) (maskV m d) (V1 m d o') c s : sProp 𝕄) ⊢ |={Set.univ}=> iprop(
      (bigSep Finset.univ fun s : Fin 16 => tileP d (srcV m d) (maskV m d) (V1 m d o') c s)
      ∗ ((bigSep Finset.univ fun s : Fin 16 => tileP d (srcV m d) (maskV m d) (outV m d) c s)
          -∗ bigSep Finset.univ fun s : Fin 16 => tileP d (srcV m d) (maskV m d) (outV m d) c s))
  iintro H; imodintro
  isplitl [H]; · iexact H
  iintro H; iexact H

/-! ## The subcores' obligation -/

/-- What a vector subcore runs when called: the kernel's body at its coordinates. -/
theorem defs₀_vector (c : Fin τ.nSC) (s : Fin τ.nSub) :
    defs₀ (F := F) (.scVector c s) 0 ()
      = SparseCore.onTile hcore0 hsub0 (fun c s => cc0__sc_select_broadcast (at2 c s) sV (Memref.isWhole_whole _) kV (Memref.isWhole_whole _) oV (Memref.isWhole_whole _)
          mV (Memref.isWhole_whole _) aV (Memref.isWhole_whole _) bV (Memref.isWhole_whole _)
          cc0_scratch3 cc0_scratch4 cc0_scratch5 cc0_scratch6 cc0_scoped0) ⟨⟩ c s := rfl

omit [FloatOps F] in
/-- A weaker record of the waits. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  · iexact HO

set_option maxRecDepth 16384 in
/-- Every subcore, handed its part, runs its body and hands back its part with its blocks filled. -/
theorem tileObl [∀ e, Nonempty (Elt F e)] (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (at2 ⟨_, hci.1⟩ ⟨_, hci.2⟩) hF O W hO (shr c i) (shr c i) (srcV m d) (maskV m d) (V1 m d o')).trans (wp_mono frame _ _ fun _ => obl_post)

/-! ## The launch element of the ghost state -/

/-- The ghost state at launch. -/
def u₀ : UU := (initOf (K (F := F)).hsCells (K (F := F)).hsToks, 1)

omit [FloatOps F] in
/-- Nothing, any number of times, is nothing. -/
theorem bigSep_emp' {I : Type} (s : Finset I) : (bigSep s fun _ => iprop(emp)) = (iprop(emp) : sProp 𝕄) := bigSep_emp_const s

/-- The launch element is the handshakes' tokens; the program's own part of it is empty. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The TensorCore's five arrays. -/
abbrev S5 : Finset (DevRef τ sig) := {a', k', s', o', r'}

omit [FloatOps F] in
/-- The five arrays held at contents `W`, one by one. -/
theorem held_S5 (d : Dev nD) (W : Valuation τ sig (Elt F)) :
    (held (T d) S5 W : sProp 𝕄)
      = iprop((aLoc d ↦{fullShare} W a') ∗ (kLoc d ↦{fullShare} W k') ∗ (sLoc d ↦{fullShare} W s') ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

/-- The arrays at launch are those five. -/
theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- The call changes no array but the result. -/
theorem V2_of_ne (d : Dev nD) {b : DevRef τ sig} (h : b ≠ o') : V2 m d b = V1 m d b := Function.update_of_ne h _ _

/-- After the call the five arrays are what they were, but the result, which holds the rows chosen. -/
theorem held_V2 (d : Dev nD) :
    (held (T d) S5 (V2 m d) : sProp 𝕄)
      = iprop((aLoc d ↦{fullShare} V1 m d a') ∗ (kLoc d ↦{fullShare} V1 m d k') ∗ (sLoc d ↦{fullShare} V1 m d s')
          ∗ (oLoc d ↦{fullShare} outV m d) ∗ rLoc d ↦{fullShare} V1 m d r') := by
  rw [held_S5, V2_of_ne m d (b := a') (by decide), V2_of_ne m d (b := k') (by decide), V2_of_ne m d (b := s') (by decide), V2_of_ne m d (b := r') (by decide),
    show V2 m d o' = outV m d from Function.update_self _ _ _]

/-- The first argument ends at its launch contents. -/
theorem V3_a (d : Dev nD) : V3 m d a' = m (aLoc d) := by
  unfold V3 V2
  rw [(opOut (F := F)).result_of_not_mem _ (show a' ∉ ({r'} : Finset (DevRef τ sig)) by decide), Function.update_of_ne (show a' ≠ o' by decide)]
  unfold V1
  rw [(opIn (F := F)).result_of_not_mem _ (show a' ∉ ({s'} : Finset (DevRef τ sig)) by decide)]
  rfl
/-- The mask ends at its launch contents. -/
theorem V3_k (d : Dev nD) : V3 m d k' = m (kLoc d) := by
  unfold V3 V2
  rw [(opOut (F := F)).result_of_not_mem _ (show k' ∉ ({r'} : Finset (DevRef τ sig)) by decide), Function.update_of_ne (show k' ≠ o' by decide)]
  unfold V1
  rw [(opIn (F := F)).result_of_not_mem _ (show k' ∉ ({s'} : Finset (DevRef τ sig)) by decide)]
  rfl

/-- The first reshape touches only the five arrays. -/
theorem hIn : (opIn (F := F)).bufs ⊆ S5 := show ({a', s'} : Finset (DevRef τ sig)) ⊆ S5 by decide
/-- The second reshape touches only the five arrays. -/
theorem hOut : (opOut (F := F)).bufs ⊆ S5 := show ({o', r'} : Finset (DevRef τ sig)) ⊆ S5 by decide

/-- What @main leaves the claims: the arguments at their launch contents, and the result. -/
abbrev FIN (d : Dev nD) : sProp 𝕄 := iprop((aLoc d ↦{fullShare} m (aLoc d)) ∗ (kLoc d ↦{fullShare} m (kLoc d)) ∗ rLoc d ↦{fullShare} V3 m d r')

/-- @main on device `d`: the reshape into rows, the call, the reshape back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (show (held (T d) S5 ((opIn (F := F)).result (V0 m d)) : sProp 𝕄) = _ from held_S5 d (V1 m d))) $$ Hheld
  icases Hh with ⟨Ha, Hk, Hs, Ho, Hr⟩
  iapply ((K (F := F)).wp_run (D (F := F)) 𝒱 (EH := EH) (P := P m) κ d 0) $$ [Hst Hs Hk Ho Ha Hr Hb Hts]
  isplitr; · iexact Hctx
  isplitl [Hst]; · iexact Hst
  isplitl [Hs Hk Ho]
  · iapply (Entails.of_eq (tiles_split d (srcV m d) (maskV m d) (V1 m d o')))
    iframe
  iintro ⟨Hst, Hdn⟩
  ihave Hdn' := (Entails.of_eq (show (bigSep Finset.univ fun c : Fin ((K (F := F)).nCore 0) => (P m).dn 0 d c) = _ from
    (tiles_split d (srcV m d) (maskV m d) (outV m d)).symm)) $$ Hdn
  icases Hdn' with ⟨Hs, Hk, Ho⟩
  iapply (wp_hlo_within 𝒱 (SparseCore.T d) none Set.univ (op := opOut) (S := S5) hOut (V := V2 m d)) $$ [Hb Ha Hk Hs Ho Hr]
  · isplitl [Hb]; · iexact Hb
    rw [held_V2]
    iframe
  iintro ⟨Hb, Hheld⟩
  ihave Hh := (Entails.of_eq (show (held (T d) S5 ((opOut (F := F)).result (V2 m d)) : sProp 𝕄) = _ from held_S5 d (V3 m d))) $$ Hheld
  rw [V3_a, V3_k]
  icases Hh with ⟨Ha, Hk, -, -, Hr⟩
  rw [wp_ret]; imodintro; imodintro
  isplitl [Hst]; · iexact Hst
  isplitr [Hb Hts]
  · isplitl [Ha]; · iexact Ha
    isplitl [Hk] <;> iassumption
  isplitl [Hb] <;> iassumption

/-- What the claims read of device `d`'s final state. -/
def fq (d : Dev nD) (st : Phys nD τ sig (Elt F)) : Prop :=
  st.mem.mem (aLoc d) = m (aLoc d) ∧ st.mem.mem (kLoc d) = m (kLoc d) ∧ st.mem.mem (rLoc d) = V3 m d r'

/-- An array held whole is what the memory holds. -/
theorem read_mem (st : Phys nD τ sig (Elt F)) (ℓ : Loc nD τ sig) (f : Buf (Elt F) ℓ) :
    iprop(SI st ∗ ℓ ↦{fullShare} f) ⊢ (iprop(⌜st.mem.mem ℓ = f⌝ ∗ SI st ∗ ℓ ↦{fullShare} f) : sProp 𝕄) := by
  refine (persistent_entails_right (SI_pointsTo_agree (st := st) (ℓ := ℓ) (I := Finset.univ) (q := fullShare) (f := f))).trans ?_
  iintro ⟨%h, H⟩
  isplitr
  · ipureintro; exact funext fun i => h i (Finset.mem_univ i)
  · iexact H

/-- What @main leaves, read off the final memory. -/
theorem hfin (d : Dev nD) (st : Phys nD τ sig (Elt F)) : iprop(FIN m d ∗ SI st) ⊢ (⌜fq m d st⌝ : sProp 𝕄) := by
  iintro ⟨⟨Ha, Hk, Hr⟩, HSI⟩
  ihave H := (read_mem st (aLoc d) _) $$ [HSI Ha]
  · isplitl [HSI] <;> iassumption
  icases H with ⟨%h1, HSI, -⟩
  ihave H := (read_mem st (kLoc d) _) $$ [HSI Hk]
  · isplitl [HSI] <;> iassumption
  icases H with ⟨%h2, HSI, -⟩
  ihave H := (read_mem st (rLoc d) _) $$ [HSI Hr]
  · isplitl [HSI] <;> iassumption
  icases H with ⟨%h3, -, -⟩
  ipureintro; exact ⟨h1, h2, h3⟩

/-! ## The program's run -/

/-- What holds at the end: the arguments unchanged, the result at the last valuation, every semaphore counter at zero. -/
def QC : PUnit × MemSt nD τ sig (Elt F) → Prop := fun r =>
  (∀ c : Dev nD, r.2.mem (aLoc c) = m (aLoc c) ∧ r.2.mem (kLoc c) = m (kLoc c) ∧ r.2.mem (rLoc c) = V3 m c r') ∧ r.2.sem = fun _ => 0

/-- The program terminates without fault from any memory; the arguments stay, the result is the last valuation's, and
    every semaphore counter ends at zero. -/
theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- What the result holds: the rows of the member the mask chooses, in the argument's shape. -/
theorem V3_r (d : Dev nD) :
    V3 m d r' = shapeCast S8x2x2048x1024 (spread (shapeCast S16384x2048 (m (aLoc d)) shapeCasts_S8x2x2048x1024_S16384x2048)
      (best (lane (m (kLoc d))) 7)) shapeCasts_S16384x2048_S8x2x2048x1024 := by
  have es : srcV m d = shapeCast S16384x2048 (m (aLoc d)) shapeCasts_S8x2x2048x1024_S16384x2048 := StableHlo.reshape_result _ _ _ _ _ _ _
  have ek : maskV m d = m (kLoc d) := (opIn (F := F)).result_of_not_mem _ (show k' ∉ ({s'} : Finset (DevRef τ sig)) by decide)
  have eo : V2 m d o' = outV m d := Function.update_self _ _ _
  have er : V3 m d r' = shapeCast S8x2x2048x1024 (V2 m d o') shapeCasts_S16384x2048_S8x2x2048x1024 := StableHlo.reshape_result _ _ _ _ _ _ _
  rw [er, eo]
  unfold outV
  rw [es, ek]

end Cert.KernelIdeal.Run

end
-- ==== Proof.RefRun.lean ====
/-
  The reference's run: it ends with its arguments unchanged and every semaphore counter at zero, and its result is the
  composed term of its operations.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.ReferenceIdeal.Run

open Cert.ReferenceIdeal Cert.ReferenceIdeal.Gen
open Idealize.ShloMosaic Idealize.SL.Sem

/-- The index the reference's argmax gives for the mask `k`. -/
def argmax (k : FVec Ideal S8 .f32) : IVec S_ 32 := fun j =>
  (Host.argReduce reducer_argmax_f32_i32 k (iotaInDim S8 32 0) (constant (F := Ideal) S_ .f32 0xFF800000#32) (constantI S_ 32 0#32)
    reducesTo_S8_S_d0 h_S_ j).2

/-- The index the reference takes at: a negative one counts from the end. -/
def wrapped (i : IVec S_ 32) : IVec S1 32 :=
  broadcastInDim S1 ![] bcast_S_S1
    (select (cmpi .slt i (constantI S_ 32 0#32)) (addi i (constantI S_ 32 8#32)) i)

/-- Whether an index is one of the eight members'. -/
def inside (i : IVec S1 32) : IVec S_ 1 :=
  Host.reduce IntOp.andi
    (andi (cmpi .sge i (broadcastInDim S1 ![] bcast_S_S1 (constantI S_ 32 0#32))) (cmpi .sle i (constantI S1 32 7#32)))
    (constantI S_ 1 1#1) reducesTo_S1_S_d0 h_S_

/-- The member of `a` at an index: a NaN in every entry where the index is none of the eight. -/
def taken (a : FVec Ideal S8x2x2048x1024 .f32) (i : IVec S_ 32) : FVec Ideal S2x2048x1024 .f32 :=
  select (broadcastInDim S2x2048x1024 ![] bcast_S_S2x2048x1024 (inside (wrapped i)))
    (Host.gather gather_S8x2x2048x1024_S1_S2x2048x1024_012_0_n_n_0_0_1220481024 a (wrapped i))
    (broadcastInDim S2x2048x1024 ![] bcast_S_S2x2048x1024 (constant (F := Ideal) S_ .f32 0x7FC00000#32))

/-- Eight copies of `x` side by side. -/
def eight (x : FVec Ideal S1x2x2048x1024 .f32) : FVec Ideal S8x2x2048x1024 .f32 :=
  concatenate S8x2x2048x1024 0 (List.replicate 8 ⟨S1x2x2048x1024, x⟩)
    concatenates_S1x2x2048x1024_S1x2x2048x1024_S1x2x2048x1024_S1x2x2048x1024_S1x2x2048x1024_S1x2x2048x1024_S1x2x2048x1024_S1x2x2048x1024_S8x2x2048x1024_d0

/-- What the reference computes: eight copies of the taken member. -/
def copies (a : FVec Ideal S8x2x2048x1024 .f32) (k : FVec Ideal S8 .f32) : FVec Ideal S8x2x2048x1024 .f32 :=
  eight (broadcastInDim S1x2x2048x1024 ![1, 2, 3] bcast_S2x2048x1024_S1x2x2048x1024_1_2_3 (taken a (argmax k)))

variable (m : (ℓ : Loc nD τ sig) → Buf (Elt Ideal) ℓ) (ρ : Dev nD → PrngReg)

/-- A buffer's contents laid side by side eight times are the eight copies of what it is known to hold. -/
theorem eight_of (V : Valuation τ sig (Elt Ideal)) (x : FVec Ideal S1x2x2048x1024 .f32)
    (h : V (Proc.devRef .tc main_v2) = x) : eight (V (Proc.devRef .tc main_v2)) = eight x := congrArg eight h

/-- The reference runs to its end, leaves its arguments as they were, and its result holds the eight copies. -/
theorem run : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v3)
          = copies (m ((c.tc : Thread nD τ).loc main_arg0)) (m ((c.tc : Thread nD τ).loc main_arg1)))
      ∧ r.2.sem = fun _ => 0) := by
  hlo_run
  · intro c
    refine ⟨trivial, trivial, ?_⟩
    exact eight_of _ _ (by after_results; simp only [StableHlo.TRef.ofBuf_toBuf]; rfl)
  · exact sem_eq_zero_of_no_sems (by decide) _

end Cert.ReferenceIdeal.Run

end
-- ==== Proof.Equation.lean ====
/-
  The kernel's result and the reference's are the same at the ideal values: the running comparison chooses the index that
  the reference's argmax gives, and the rows it spreads are the member that the reference takes, eight times over.
-/
module

public import proofs.«01_k».proof.Proof.IdealBlocks
public import proofs.«01_k».proof.Proof.RefRun
public import Idealize.ShloMosaic.Lib.ValueIdxCore
public import Idealize.ShloMosaic.PureOps.Reduce
public import Idealize.ShloMosaic.PureOps.Ideal.Laws

@[expose] public section

noncomputable section

namespace Cert.Equation

open Cert.ReferenceIdeal Cert.ReferenceIdeal.Gen
open Cert.KernelIdeal.Run (top best lane spread)
open Cert.ReferenceIdeal.Run (argmax wrapped inside taken eight copies)
open Idealize.ShloMosaic Idealize.ShloMosaic.ValueIdx

/-! ## The greatest value's first place -/

/-- The place found among the lanes `0, …, n` is one of them. -/
theorem best_le (l : ℕ → Ideal .f32) (n : ℕ) : best l n ≤ n := by
  induction n with
  | zero => exact Nat.le_refl _
  | succ n ih => unfold best; split_ifs <;> omega

/-- One value is found greater than another just where it is. -/
theorem gt_iff (x y : Ideal .f32) : Scalar.cmpf .ogt x y = 1 ↔ y < x := by
  show BitVec.ofBool (decide (y < x)) = 1 ↔ y < x
  by_cases h : y < x <;> simp [h]

/-- The running comparison's next value is the greater of the two, the earlier one where they are equal. -/
theorem top_succ (l : ℕ → Ideal .f32) (n : ℕ) : top l (n + 1) = if top l n < l (n + 1) then l (n + 1) else top l n :=
  if_congr (gt_iff _ _) rfl rfl

/-- The running comparison's next place is the new one just where its value is strictly greater. -/
theorem best_succ (l : ℕ → Ideal .f32) (n : ℕ) : best l (n + 1) = if top l n < l (n + 1) then n + 1 else best l n :=
  if_congr (gt_iff _ _) rfl rfl

/-- The reference's reducer keeps the earlier pair `(t, b)` unless the later value `x` is strictly greater. -/
theorem reducer_step (t x : Ideal .f32) (b n : ℕ) (hb : b < n) (hn : n < 8) :
    reducer_argmax_f32_i32 (F := Ideal) (t, BitVec.ofNat 32 b) (x, BitVec.ofNat 32 n)
      = if t < x then (x, BitVec.ofNat 32 n) else (t, BitVec.ofNat 32 b) := by
  have hs : IntOp.cmpi .slt (BitVec.ofNat 32 b) (BitVec.ofNat 32 n) = 1#1 := by
    interval_cases n <;> interval_cases b <;> decide
  rcases lt_trichotomy t x with h | h | h
  · simp [reducer_argmax_f32_i32, Ideal.cmpf_def, Ideal.cmp, hs, Scalar.select, IntOp.ori, IntOp.andi, h, h.not_gt, h.ne]
  · subst h
    simp [reducer_argmax_f32_i32, Ideal.cmpf_def, Ideal.cmp, hs, Scalar.select, IntOp.ori, IntOp.andi]
  · simp [reducer_argmax_f32_i32, Ideal.cmpf_def, Ideal.cmp, hs, Scalar.select, IntOp.ori, IntOp.andi, h, h.not_gt, h.ne']

/-- From the least value the reducer takes the first pair whatever its value is. -/
theorem reducer_first (x : Ideal .f32) :
    reducer_argmax_f32_i32 (F := Ideal) (FloatOps.ofBits .f32 0xFF800000#32, 0#32) (x, 0#32) = (x, 0#32) := by
  have hb : (FloatOps.ofBits .f32 0xFF800000#32 : Ideal .f32) = (⊥ : EReal) := by simp [Ideal.ofBits, Ideal.ieee]
  rw [hb]
  simp [reducer_argmax_f32_i32, Ideal.cmpf_def, Ideal.cmp, Scalar.select, IntOp.ori, IntOp.andi]

/-- The reference's fold over the lanes `0, …, n` keeps the running comparison's value and place. -/
theorem fold_lanes (l : ℕ → Ideal .f32) (n : ℕ) (hn : n < 8) :
    (List.range (n + 1)).foldl (fun r i => reducer_argmax_f32_i32 (F := Ideal) r (l i, BitVec.ofNat 32 i))
        (FloatOps.ofBits .f32 0xFF800000#32, 0#32)
      = (top l n, BitVec.ofNat 32 (best l n)) := by
  induction n with
  | zero => exact reducer_first (l 0)
  | succ n ih =>
    rw [List.range_succ, List.foldl_append, ih (by omega), List.foldl_cons, List.foldl_nil,
      reducer_step _ _ _ _ (Nat.lt_succ_of_le (best_le l n)) hn, top_succ, best_succ]
    split_ifs <;> rfl

/-- The reference's argmax of the mask is the place the running comparison finds. -/
theorem argmax_eq (k : FVec Ideal S8 .f32) (j : S_.Idx) : argmax k j = BitVec.ofNat 32 (best (lane k) 7) := by
  have hf : Host.argReduceFiber k (iotaInDim S8 32 0) reducesTo_S8_S_d0 j
      = (List.range 8).map fun i => (lane k i, BitVec.ofNat 32 i) := by
    unfold Host.argReduceFiber
    rw [List.filter_eq_self.2 fun n _ => decide_eq_true (funext fun a => a.elim0)]
    rw [← List.map_coe_finRange_eq_range, List.map_map]
    refine List.map_congr_left fun n _ => ?_
    let i : S8.Idx := fun | 0 => n
    have hr : S8.rowMajor.symm n = i := by
      rw [Equiv.symm_apply_eq]
      exact Fin.ext (Shape.rowMajor_val_one i).symm
    rw [hr]
    refine Prod.ext (congrArg k (funext fun b => ?_)) rfl
    match b with
    | 0 => exact Fin.ext (Nat.mod_eq_of_lt n.isLt).symm
  unfold argmax
  rw [Ideal.argReduce_eq_reduce2, Host.reduce2_eq_foldl_fiber, hf, List.foldl_map]
  exact congrArg Prod.snd (fold_lanes (lane k) 7 (by decide))

/-! ## The member taken -/

/-- An index that is none of the negative ones is taken as it is. -/
theorem wrapped_eq (i : IVec S_ 32) (p : ℕ) (hp : p < 8) (hi : ∀ j, i j = BitVec.ofNat 32 p) (b : S1.Idx) :
    wrapped i b = BitVec.ofNat 32 p := by
  unfold wrapped
  rw [broadcastInDim_apply _ _ _ b (fun a => a.elim0) (fun a => a.elim0)]
  simp only [select, cmpi, addi, constantI, hi]
  interval_cases p <;> decide

/-- Each of the indices `0, …, 7` is one of the eight members'. -/
theorem inside_eq (i : IVec S1 32) (p : ℕ) (hp : p < 8) (hi : ∀ b, i b = BitVec.ofNat 32 p) (j : S_.Idx) : inside i j = 1#1 := by
  have hx : ∀ b, (andi (cmpi .sge i (broadcastInDim S1 ![] bcast_S_S1 (constantI S_ 32 0#32))) (cmpi .sle i (constantI S1 32 7#32))) b = 1#1 := by
    intro b
    simp only [andi, cmpi, constantI, broadcastInDim, hi]
    interval_cases p <;> decide
  unfold inside
  rw [Host.reduce_eq_foldl]
  generalize List.filter _ _ = L
  induction L with
  | nil => rfl
  | cons b L ih => rw [List.foldl_cons, hx b]; exact ih

/-- On the axes after the first the reference's gather reads the result's own coordinate. -/
theorem gather_axis (i : IVec S1 32) (y : S2x2048x1024.Idx) (b : Fin 3) :
    gather_S8x2x2048x1024_S1_S2x2048x1024_012_0_n_n_0_0_1220481024.start y i b.succ
      + gather_S8x2x2048x1024_S1_S2x2048x1024_012_0_n_n_0_0_1220481024.offCoord y b.succ = (y b).val := by
  have hn : b.succ ∉ gather_S8x2x2048x1024_S1_S2x2048x1024_012_0_n_n_0_0_1220481024.startIndexMap := fun h => Fin.succ_ne_zero b (List.mem_singleton.mp h)
  rw [GatherDims.start, dif_neg hn, GatherDims.offCoord, dif_pos ((GatherDims.mem_sKept _ _).mpr ⟨hn, List.not_mem_nil⟩), Nat.zero_add]
  match b with
  | 0 => rfl
  | 1 => rfl
  | 2 => rfl

/-- The reference's gather at the index `p` reads member `p`. -/
theorem gather_eq (a : FVec Ideal S8x2x2048x1024 .f32) (i : IVec S1 32) (p : Fin 8) (hi : ∀ b, i b = BitVec.ofNat 32 p.val)
    (y : S2x2048x1024.Idx) :
    Host.gather gather_S8x2x2048x1024_S1_S2x2048x1024_012_0_n_n_0_0_1220481024 a i y = a (ix4 p (y 0) (y 1) (y 2)) := by
  unfold Host.gather
  refine congrArg a (funext fun x => Fin.ext ?_)
  let d := gather_S8x2x2048x1024_S1_S2x2048x1024_012_0_n_n_0_0_1220481024
  show d.start y i x + d.batchCoord y x + d.offCoord y x = _
  rw [GatherDims.batchCoord_eq_zero _ _ _ List.not_mem_nil, Nat.add_zero]
  match x with
  | 0 =>
    rw [GatherDims.offCoord_eq_zero _ _ _ (fun h => ((GatherDims.mem_sKept _ _).mp h).1 (List.mem_singleton.mpr rfl)),
      GatherDims.start, dif_pos (show (0 : Fin 4) ∈ d.startIndexMap from List.mem_singleton.mpr rfl), hi]
    show min (BitVec.ofNat 32 p.val).toInt.toNat (8 - 1) + 0 = p.val
    clear hi
    revert p
    decide
  | 1 => exact gather_axis i y 0
  | 2 => exact gather_axis i y 1
  | 3 => exact gather_axis i y 2

/-- What is taken at one of the eight indices is that member. -/
theorem taken_eq (a : FVec Ideal S8x2x2048x1024 .f32) (i : IVec S_ 32) (p : Fin 8) (hi : ∀ j, i j = BitVec.ofNat 32 p.val)
    (y : S2x2048x1024.Idx) : taken a i y = a (ix4 p (y 0) (y 1) (y 2)) := by
  unfold taken
  have hw := wrapped_eq i p.val p.isLt hi
  rw [select, Scalar.select, broadcastInDim_apply _ _ _ y (fun a => a.elim0) (fun a => a.elim0),
    inside_eq _ p.val p.isLt hw]
  exact (if_pos rfl).trans (gather_eq a _ p hw y)

/-! ## The two results -/

/-- The place of the mask's first greatest value. -/
def first (k : FVec Ideal S8 .f32) : Fin 8 := ⟨best (lane k) 7, Nat.lt_succ_of_le (best_le _ 7)⟩

/-- Every member of the reference's result is the member of the argument that the mask's first greatest value names. -/
theorem copies_apply (a : FVec Ideal S8x2x2048x1024 .f32) (k : FVec Ideal S8 .f32) (x : S8x2x2048x1024.Idx) :
    copies a k x = a (ix4 (first k) (x 1) (x 2) (x 3)) := by
  unfold copies eight
  refine (concatenate_replicate_apply (s₁ := S1x2x2048x1024) (t := S8x2x2048x1024) 0 8 _ _ rfl x (ix4 0 (x 1) (x 2) (x 3))
    (show 0 = (x 0).val % 1 by omega)
    (fun b hb => by match b with | 0 => exact absurd rfl hb | 1 => rfl | 2 => rfl | 3 => rfl)).trans ?_
  let y : S2x2048x1024.Idx := fun | 0 => x 1 | 1 => x 2 | 2 => x 3
  refine (broadcastInDim_apply _ _ _ _ y (fun b => by match b with | 0 => rfl | 1 => rfl | 2 => rfl)).trans ?_
  exact taken_eq a _ (first k) (argmax_eq k) y

/-- The rows the kernel spreads, read as eight members again, are those copies. -/
theorem spread_eq (a : FVec Ideal S8x2x2048x1024 .f32) (k : FVec Ideal S8 .f32)
    (h : S8x2x2048x1024.ShapeCasts Cert.KernelIdeal.S16384x2048) (h' : Cert.KernelIdeal.S16384x2048.ShapeCasts S8x2x2048x1024) :
    shapeCast S8x2x2048x1024 (spread (shapeCast Cert.KernelIdeal.S16384x2048 a h) (best (lane k) 7)) h' = copies a k := by
  funext x
  have h0 : (x 0).val < 8 := (x 0).isLt
  have h1 : (x 1).val < 2 := (x 1).isLt
  have h2 : (x 2).val < 2048 := (x 2).isLt
  have h3 : (x 3).val < 1024 := (x 3).isLt
  have hb := best_le (lane k) 7
  let q := ((x 1).val * 2048 + (x 2).val) * 1024 + (x 3).val
  rw [copies_apply, shapeCast_apply _ h' x (ix2 ⟨(x 0).val * 2048 + q / 2048, by omega⟩ ⟨q % 2048, by omega⟩)]
  · unfold spread
    refine shapeCast_apply _ h _ _ ?_
    rw [Shape.rowMajor_val_two, Shape.rowMajor_val_four]
    show ((best (lane k) 7 * 2 + (x 1).val) * 2048 + (x 2).val) * 1024 + (x 3).val
      = (2048 * best (lane k) 7 + ((x 0).val * 2048 + q / 2048) % 2048) % 16384 * 2048 + q % 2048
    omega
  · rw [Shape.rowMajor_val_two, Shape.rowMajor_val_four]
    show ((x 0).val * 2048 + q / 2048) * 2048 + q % 2048 = (((x 0).val * 2 + (x 1).val) * 2048 + (x 2).val) * 1024 + (x 3).val
    omega

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.BitsRun
public import proofs.«01_k».proof.Proof.IdealRun
public import proofs.«01_k».proof.Proof.RefRun
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The machine's program terminates without fault, keeps its arguments, and leaves every semaphore counter at zero. -/
theorem frame_kernel : quiescent_Kernel (hKernel := Cert.Kernel.Gen.facts) := fun m g _ =>
  (θ_run _ _ _).mono (fun _ h => ⟨fun c => ⟨(h.1 c).1, (h.1 c).2.1⟩, h.2⟩) (Cert.Kernel.Run.run_main (F := Bits) m g)

/-- So does the idealized program. -/
theorem frame_ideal : quiescent_KernelIdeal (hKernelIdeal := Cert.KernelIdeal.Gen.facts) := fun m g _ =>
  (θ_run _ _ _).mono (fun _ h => ⟨fun c => ⟨(h.1 c).1, (h.1 c).2.1⟩, h.2⟩) (Cert.KernelIdeal.Run.run_main (F := Ideal) m g)

/-- So does the reference. -/
theorem frame_reference : quiescent_ReferenceIdeal (hReferenceIdeal := Cert.ReferenceIdeal.Gen.facts) := fun m g _ =>
  (θ_run _ _ _).mono (fun _ h => ⟨fun c => ⟨(h.1 c).1, (h.1 c).2.1⟩, h.2⟩) (Cert.ReferenceIdeal.Run.run m g)

/-- The idealized program and the reference, started from equal arguments, end with equal results: eight copies of the
    member of the first argument at the mask's first greatest entry. -/
theorem equal_results : algebraic_KernelIdeal_ReferenceIdeal (hKernelIdeal := Cert.KernelIdeal.Gen.facts)
    (hReferenceIdeal := Cert.ReferenceIdeal.Gen.facts) := fun m g m' g' _ hagree =>
  ⟨fun c => Cert.ReferenceIdeal.Run.copies (m (Cert.KernelIdeal.Run.aLoc c)) (m (Cert.KernelIdeal.Run.kLoc c)),
    (θ_run _ _ _).mono
      (fun _ h c => ⟨(h.1 c).2.2.trans ((Cert.KernelIdeal.Run.V3_r m c).trans (Cert.Equation.spread_eq _ _ _ _)), (h.1 c).1, (h.1 c).2.1⟩)
      (Cert.KernelIdeal.Run.run_main (F := Ideal) m g),
    (θ_run _ _ _).mono
      (fun _ h c => ⟨(h.1 c).2.2.trans (congrArg₂ Cert.ReferenceIdeal.Run.copies (hagree c).1 (hagree c).2), (h.1 c).1, (h.1 c).2.1⟩)
      (Cert.ReferenceIdeal.Run.run m' g')⟩

/-- All five claims. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
